-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens_small_labels [hPre_finite_tokens_small_labels : Cert.Pre_finite_tokens_small_labels.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens_small_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens_small_labels [hPre_finite_tokens_small_labels : Cert.Pre_finite_tokens_small_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens_small_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_tokens_small_labels [hKernelIdeal : Cert.KernelIdeal.Facts] [hPre_finite_tokens_small_labels : Cert.Pre_finite_tokens_small_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens_small_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_tokens_small_labels [hReferenceIdeal : Cert.ReferenceIdeal.Facts] [hPre_finite_tokens_small_labels : Cert.Pre_finite_tokens_small_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens_small_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "scale_sq" .f32 0x41A4E123#32 (((Real.log 2)⁻¹ * (100 / 7) : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite_tokens_small_labels [hKernelIdeal : Cert.KernelIdeal.Facts] [hReferenceIdeal : Cert.ReferenceIdeal.Facts] [hPre_finite_tokens_small_labels : Cert.Pre_finite_tokens_small_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens_small_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_tokens_small_labels : Cert.Pre_finite_tokens_small_labels.Facts),
    quiescent_Kernel (hKernel := hKernel)
    ∧ quiescent_KernelIdeal (hKernelIdeal := hKernelIdeal)
    ∧ quiescent_KernelIdeal_pre_finite_tokens_small_labels (hKernelIdeal := hKernelIdeal) (hPre_finite_tokens_small_labels := hPre_finite_tokens_small_labels)
    ∧ quiescent_ReferenceIdeal (hReferenceIdeal := hReferenceIdeal)
    ∧ quiescent_ReferenceIdeal_pre_finite_tokens_small_labels (hReferenceIdeal := hReferenceIdeal) (hPre_finite_tokens_small_labels := hPre_finite_tokens_small_labels)
    ∧ preserves_Kernel_KernelIdeal
    ∧ algebraic_KernelIdeal_ReferenceIdeal_pre_finite_tokens_small_labels (hKernelIdeal := hKernelIdeal) (hReferenceIdeal := hReferenceIdeal) (hPre_finite_tokens_small_labels := hPre_finite_tokens_small_labels)
-- ==== Pre_finite_tokens_small_labels.lean ====
abbrev S1024x2x64 : Shape := ⟨3, ![1024, 2, 64]⟩
abbrev S1024 : Shape := ⟨1, ![1024]⟩
abbrev S_ : Shape := ⟨0, ![]⟩

class Facts : Prop where
  bcast_S_S1024x2x64 : S_.BroadcastsInDim S1024x2x64 (![] : Fin 0 → Fin S1024x2x64.rank)
  reducesTo_S1024x2x64_S_d0_1_2 : S1024x2x64.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x2x64 .f32) (main_arg1 : IVec S1024 32) : IVec S_ 1 :=
  let main_v0 : FVec F S1024x2x64 .f32 := Host.absf main_arg0
  let main_cst : FVec F S_ .f32 := constant S_ .f32 0x7F800000#32
  let main_v1 : FVec F S1024x2x64 .f32 := broadcastInDim S1024x2x64 ![] bcast_S_S1024x2x64 main_cst
  let main_v2 : IVec S1024x2x64 1 := cmpf .olt main_v0 main_v1
  let main_c : IVec S_ 1 := constantI S_ 1 1#1
  let main_v3 : IVec S_ 1 := (fun x v => Host.reduce IntOp.andi x v reducesTo_S1024x2x64_S_d0_1_2 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 16#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Kernel.lean ====
abbrev S1024x2x64 : Shape := ⟨3, ![1024, 2, 64]⟩
abbrev S1024 : Shape := ⟨1, ![1024]⟩
abbrev S1024x128 : Shape := ⟨2, ![1024, 128]⟩
abbrev S1024x1 : Shape := ⟨2, ![1024, 1]⟩
abbrev S1x1024 : Shape := ⟨2, ![1, 1024]⟩
abbrev S1x1 : Shape := ⟨2, ![1, 1]⟩
abbrev S1024x16 : Shape := ⟨2, ![1024, 16]⟩
abbrev S16x1024 : Shape := ⟨2, ![16, 1024]⟩
abbrev S16 : Shape := ⟨1, ![16]⟩
abbrev S16x1 : Shape := ⟨2, ![16, 1]⟩
abbrev S1x16x1 : Shape := ⟨3, ![1, 16, 1]⟩
abbrev S1 : Shape := ⟨1, ![1]⟩
abbrev S1x1x1 : Shape := ⟨3, ![1, 1, 1]⟩
abbrev S1024x1024 : Shape := ⟨2, ![1024, 1024]⟩
abbrev S16x128 : Shape := ⟨2, ![16, 128]⟩
abbrev S1024x64 : Shape := ⟨2, ![1024, 64]⟩
abbrev S1x1024x1 : Shape := ⟨3, ![1, 1024, 1]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S1024x2x64, .f32⟩
  | .hbm, ⟨1, _⟩ => ⟨S1024, .i32⟩
  | .hbm, ⟨2, _⟩ => ⟨S1024x128, .f32⟩
  | .hbm, ⟨3, _⟩ => ⟨S1024x1, .i32⟩
  | .hbm, ⟨4, _⟩ => ⟨S1x1024, .i32⟩
  | .hbm, ⟨5, _⟩ => ⟨S1x1, .f32⟩
  | .hbm, ⟨6, _⟩ => ⟨S_, .f32⟩
  | .local _ .vmem, ⟨0, _⟩ => ⟨S1024x128, .f32⟩
  | .local _ .vmem, ⟨1, _⟩ => ⟨S1024x1, .i32⟩
  | .local _ .vmem, ⟨2, _⟩ => ⟨S1x1024, .i32⟩
  | .local _ .vmem, ⟨3, _⟩ => ⟨S1x1, .f32⟩
  | _, _ => ⟨S1024x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "scale_sq" => some (((Real.log 2)⁻¹ * (100 / 7) : ℝ) : EReal)
  | _ => none
-- ==== ReferenceIdeal.lean ====
abbrev S1024x2x64 : Shape := ⟨3, ![1024, 2, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1024x1x64 : Shape := ⟨3, ![1024, 1, 64]⟩
abbrev S1024x64 : Shape := ⟨2, ![1024, 64]⟩
abbrev S64x1024 : Shape := ⟨2, ![64, 1024]⟩

abbrev nBuf : Space → Nat
  | .hbm => 114
  | .vmem => 0
  | .smem => 0
  | _ => 0

abbrev bufTy : (tb : Table) → Fin (tcTables nBuf tb) → BufTy
  | .hbm, ⟨0, _⟩ => ⟨S1024x2x64, .f32⟩
  | .hbm, ⟨1, _⟩ => ⟨S1024, .i32⟩
  | .hbm, ⟨2, _⟩ => ⟨S1024x1, .i32⟩
  | .hbm, ⟨3, _⟩ => ⟨S1x1024, .i32⟩
  | .hbm, ⟨4, _⟩ => ⟨S1024x1024, .i32⟩
  | .hbm, ⟨5, _⟩ => ⟨S1024x1024, .i32⟩
  | .hbm, ⟨6, _⟩ => ⟨S1024x1024, .i1⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S1024x1024, .i1⟩
  | .hbm, ⟨14, _⟩ => ⟨S1024x1024, .i1⟩
  | .hbm, ⟨15, _⟩ => ⟨S1024x1024, .i32⟩
  | .hbm, ⟨16, _⟩ => ⟨S_, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1024x1x64, .f32⟩
  | .hbm, ⟨25, _⟩ => ⟨S1024x64, .f32⟩
  | .hbm, ⟨26, _⟩ => ⟨S64x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024, .f32⟩
  | .hbm, ⟨35, _⟩ => ⟨S1024x1, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024x1, .f32⟩
  | .hbm, ⟨44, _⟩ => ⟨S1024x1024, .f32⟩
  | .hbm, ⟨45, _⟩ => ⟨S1024x1024, .f32⟩
  | .hbm, ⟨46, _⟩ => ⟨S_, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S_, .f32⟩
  | .hbm, ⟨51, _⟩ => ⟨S1024, .f32⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1024x1x64, .f32⟩
  | .hbm, ⟨66, _⟩ => ⟨S1024x64, .f32⟩
  | .hbm, ⟨67, _⟩ => ⟨S64x1024, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S_, .f32⟩
  | .hbm, ⟨72, _⟩ => ⟨S1024x1024, .f32⟩
  | .hbm, ⟨73, _⟩ => ⟨S1024x1024, .f32⟩
  | .hbm, ⟨74, _⟩ => ⟨S_, .f32⟩
  | .hbm, ⟨75, _⟩ => ⟨S1024, .f32⟩
  | .hbm, ⟨76, _⟩ => ⟨S1024x1, .f32⟩
  | .hbm, ⟨77, _⟩ => ⟨S1024x1024, .f32⟩
  | .hbm, ⟨78, _⟩ => ⟨S1024x1024, .f32⟩
  | .hbm, ⟨79, _⟩ => ⟨S1024x1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S1024x1, .f32⟩
  | .hbm, ⟨85, _⟩ => ⟨S1024x1024, .f32⟩
  | .hbm, ⟨86, _⟩ => ⟨S1024x1024, .f32⟩
  | .hbm, ⟨87, _⟩ => ⟨S_, .f32⟩
  | .hbm, ⟨88, _⟩ => ⟨S_, .f32⟩
  | .hbm, ⟨89, _⟩ => ⟨S1024x1024, .f32⟩
  | .hbm, ⟨90, _⟩ => ⟨S1024x1024, .f32⟩
  | .hbm, ⟨91, _⟩ => ⟨S_, .f32⟩
  | .hbm, ⟨92, _⟩ => ⟨S1024, .f32⟩
  | .hbm, ⟨93, _⟩ => ⟨S_, .i32⟩
  | .hbm, ⟨94, _⟩ => ⟨S1024, .i32⟩
  | .hbm, ⟨95, _⟩ => ⟨S1024, .i32⟩
  | .hbm, ⟨96, _⟩ => ⟨S1024, .f32⟩
  | .hbm, ⟨97, _⟩ => ⟨S1024, .f32⟩
  | .hbm, ⟨98, _⟩ => ⟨S_, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S1024, .i32⟩
  | .hbm, ⟨106, _⟩ => ⟨S_, .i32⟩
  | .hbm, ⟨107, _⟩ => ⟨S_, .i32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S1024x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_call0_v0 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_call2_v0 : Ref sig .tc := ⟨.hbm, 58, rfl⟩
abbrev main_call2_v1 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_call3_v0 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_call4_v0 : Ref sig .tc := ⟨.hbm, 88, rfl⟩
abbrev main_call4_v1 : Ref sig .tc := ⟨.hbm, 89, rfl⟩
abbrev main_v62 : Ref sig .tc := ⟨.hbm, 90, rfl⟩
abbrev main_cst_16 : Ref sig .tc := ⟨.hbm, 91, rfl⟩
abbrev main_v63 : Ref sig .tc := ⟨.hbm, 92, rfl⟩
abbrev main_c_17 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_18 : Ref sig .tc := ⟨.hbm, 98, rfl⟩
abbrev main_call5_v0 : Ref sig .tc := ⟨.hbm, 99, rfl⟩
abbrev main_call5_v1 : Ref sig .tc := ⟨.hbm, 100, rfl⟩
abbrev main_v68 : Ref sig .tc := ⟨.hbm, 101, rfl⟩
abbrev main_cst_19 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_20 : Ref sig .tc := ⟨.hbm, 106, rfl⟩
abbrev main_v72 : Ref sig .tc := ⟨.hbm, 107, rfl⟩
abbrev main_v73 : Ref sig .tc := ⟨.hbm, 108, rfl⟩
abbrev main_cst_21 : Ref sig .tc := ⟨.hbm, 109, rfl⟩
abbrev main_v74 : Ref sig .tc := ⟨.hbm, 110, rfl⟩
abbrev main_cst_22 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Proof.KernelRun.lean ====
/- What the kernel's run leaves in its result: the one block that the body stores, written as a function of the two
   argument arrays, and read at its only entry. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Result

open Cert.KernelIdeal Cert.KernelIdeal.Gen

/-- The block the body stores, from the tokens laid out as rows of 128 features and the labels as a column and as a
    row. -/
def stored (x : FVec Ideal S1024x128 .f32) (lc : IVec S1024x1 32) (lr : IVec S1x1024 32) : FVec Ideal S1x1 .f32 :=
  k0_pay1 (k0_pay6 (F := Ideal) lr) (k0_pay7 (F := Ideal) lc lr)
    (k0_pay11 (k0_pay2 (F := Ideal) lr) (k0_pay4 (F := Ideal) lr) (k0_pay5 (F := Ideal) lr) (k0_pay7 (F := Ideal) lc lr)
      k0_pay8 (k0_pay9 (F := Ideal)) x)
    (k0_pay12 k0_pay8 (k0_pay9 (F := Ideal)) x)

/-- The kernel's result as a function of its arguments: the host's reshapes, the stored block, and the host's reshape
    of the block to a scalar. -/
def value (tokens : FVec Ideal S1024x2x64 .f32) (labels : IVec S1024 32) : FVec Ideal S_ .f32 :=
  shapeCast S_ (stored (shapeCast S1024x128 tokens shapeCasts_S1024x2x64_S1024x128)
    (shapeCast S1024x1 labels shapeCasts_S1024_S1024x1) (shapeCast S1x1024 labels shapeCasts_S1024_S1x1024)) shapeCasts_S1x1_S_

variable (m : (ℓ : Loc nD τ sig) → Buf (Elt Ideal) ℓ)

/-- Every window's block is its whole array: all four block indices are zero at the grid's only point. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The region finds the tokens in rows of 128 features in window 0's array. -/
theorem entry0 (c : Dev nD) : V m c main_v0 = shapeCast S1024x128 (m ((c : Thread nD τ).loc main_arg0)) shapeCasts_S1024x2x64_S1024x128 := by
  unfold V V0
  simp only [hostOps0, List.flatten_cons, List.flatten_nil, List.append_nil]
  after_results_simp
  rfl

/-- Window 0's block is that array. -/
theorem block0 (c : Dev nD) (t : Fin cfg0.N) : iblk m c 0 t = shapeCast S1024x128 (m ((c : Thread nD τ).loc main_arg0)) shapeCasts_S1024x2x64_S1024x128 := by
  refine Eq.trans ?_ (entry0 m c)
  blk_ext! [iblk, idx t]

/-- The region finds the labels as a column in window 1's array. -/
theorem entry1 (c : Dev nD) : V m c main_v1 = shapeCast S1024x1 (m ((c : Thread nD τ).loc main_arg1)) shapeCasts_S1024_S1024x1 := by
  unfold V V0
  simp only [hostOps0, List.flatten_cons, List.flatten_nil, List.append_nil]
  after_results_simp
  rfl

/-- Window 1's block is that array. -/
theorem block1 (c : Dev nD) (t : Fin cfg0.N) : iblk m c 1 t = shapeCast S1024x1 (m ((c : Thread nD τ).loc main_arg1)) shapeCasts_S1024_S1024x1 := by
  refine Eq.trans ?_ (entry1 m c)
  blk_ext! [iblk, idx t]

/-- The region finds the labels as a row in window 2's array. -/
theorem entry2 (c : Dev nD) : V m c main_v2 = shapeCast S1x1024 (m ((c : Thread nD τ).loc main_arg1)) shapeCasts_S1024_S1x1024 := by
  unfold V V0
  simp only [hostOps0, List.flatten_cons, List.flatten_nil, List.append_nil]
  after_results_simp
  rfl

/-- Window 2's block is that array. -/
theorem block2 (c : Dev nD) (t : Fin cfg0.N) : iblk m c 2 t = shapeCast S1x1024 (m ((c : Thread nD τ).loc main_arg1)) shapeCasts_S1024_S1x1024 := by
  refine Eq.trans ?_ (entry2 m c)
  blk_ext! [iblk, idx t]

/-- After the run the kernel's output array is the stored block of the host-reshaped arguments. -/
theorem final (c : Dev nD) : (dats m 0 c).arrAt 3 (cfgs 0).N
    = stored (shapeCast S1024x128 (m ((c : Thread nD τ).loc main_arg0)) shapeCasts_S1024x2x64_S1024x128)
        (shapeCast S1024x1 (m ((c : Thread nD τ).loc main_arg1)) shapeCasts_S1024_S1024x1)
        (shapeCast S1x1024 (m ((c : Thread nD τ).loc main_arg1)) shapeCasts_S1024_S1x1024) := by
  refine (dats m 0 c).arrAt_eq_of_after_last 3 t0_0 (by decide +kernel) _ fun j => ?_
  blk_simp
  rw [after0_3]
  unfold_out out0_3
  frame_out
  rw [block0 m c, block1 m c, block2 m c]
  rfl

/-- The kernel's run: it ends with its result at `value` of the arguments, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v4) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v4 (Pipeline.mem_restRefs_of main_v4 (by decide) (by decide))).trans ?_
    unfold Pipeline.afterTail₀
    simp only [hostOps1, List.flatten_cons, List.flatten_nil, List.append_nil]
    after_results_simp
    refine Eq.trans (congrArg (fun b => shapeCast S_ b shapeCasts_S1x1_S_)
      ((Pipeline.withArrays_arr (cfgs 0).spec (by decide) c (V0 m c) (fun w => (dats m 0 c).arrAt w (cfgs 0).N) 3).trans (final m c))) rfl
  · exact ((h c).2 main_arg0 (Pipeline.mem_restRefs_of main_arg0 (by decide) (by decide))).trans (W_main_arg0 m _ c)
  · exact ((h c).2 main_arg1 (Pipeline.mem_restRefs_of main_arg1 (by decide) (by decide))).trans (W_main_arg1 m _ c)

end Cert.KernelIdeal.Result

end
-- ==== Proof.KernelReads.lean ====
/- The kernel's payloads at an index, as the operations there read them: the one-hot matrix of the classes, the class
   counts, the weight of each class and each row, the scaled tokens, and the two parts of the numerator. -/
module

public import proofs.«01_k».proof.Proof.KernelRun
public import Idealize.ShloMosaic.Lib.Pointwise

@[expose] public section

set_option maxRecDepth 16384

noncomputable section

open Idealize.ShloMosaic Idealize.ShloMosaic.TcCoe Idealize.SL.Sem

namespace Cert.KernelIdeal.Result

open Cert.KernelIdeal Cert.KernelIdeal.Gen

variable (x : FVec Ideal S1024x128 .f32) (lc : IVec S1024x1 32) (lr : IVec S1x1024 32)

/-- A row's largest entry plus the logarithm, to the base that the last factor gives, of its powers of 2. -/
def rowLse (row : Fin 1024 → EReal) : EReal :=
  Finset.univ.fold max (Ideal.ofBits .f32 0xFF800000#32) row
    + Ideal.log (∑ k, Ideal.exp2 (row k - Finset.univ.fold max (Ideal.ofBits .f32 0xFF800000#32) row)) * Named.named (F := Ideal) κ "log2e" (φ := .f32) 0x3FB8AA3B#32

/-- The one-hot matrix: class `a` at row `i` compares the number `a` with the row's label. -/
theorem pay2_at (a : Fin 16) (i : Fin 1024) :
    k0_pay2 (F := Ideal) lr (ix2 a i) = Scalar.select (IntOp.cmpi .eq (BitVec.ofNat 32 a) (lr (ix2 0 i))) (1 : EReal) 0 := by
  pointwise [k0_pay2]

/-- The class count. -/
theorem pay3_at (a : Fin 16) : k0_pay3 (F := Ideal) lr (ix2 a 0) = ∑ i, (k0_pay2 (F := Ideal) lr (ix2 a i) : EReal) := by
  pointwise [k0_pay3]

/-- The reciprocal of the number of positives of a class's members. -/
theorem pay4_at (a : Fin 16) :
    k0_pay4 (F := Ideal) lr (ix2 a 0) = Ideal.div 1 (max ((k0_pay3 (F := Ideal) lr (ix2 a 0) : EReal) - 1) 1) := by
  pointwise [k0_pay4]

/-- Whether a class has two members. -/
theorem pay5_at (a : Fin 16) :
    k0_pay5 (F := Ideal) lr (ix2 a 0) = if (1 : EReal) < k0_pay3 (F := Ideal) lr (ix2 a 0) then (1 : EReal) else 0 := by
  pointwise [k0_pay5]

/-- The number of rows whose class has two members. -/
theorem pay6_at :
    k0_pay6 (F := Ideal) lr = ∑ a : Fin 16, (k0_pay3 (F := Ideal) lr (ix2 a 0) : EReal) * k0_pay5 (F := Ideal) lr (ix2 a 0) := by
  pointwise [k0_pay6]
  simp only [Fin.sum_univ_one, Finset.univ_unique, Finset.sum_singleton]

/-- Whether a row's class has two members, by way of the transposed one-hot matrix. -/
theorem pay7_at (i : Fin 1024) :
    k0_pay7 (F := Ideal) lc lr (ix2 i 0)
      = ∑ a : Fin 16, Scalar.select (IntOp.cmpi .eq (lc (ix2 i 0)) (BitVec.ofNat 32 a)) (k0_pay5 (F := Ideal) lr (ix2 a 0) : EReal) 0 := by
  pointwise [k0_pay7]

/-- The diagonal's mask. -/
theorem pay8_at (i j : Fin 1024) : k0_pay8 (ix2 i j) = IntOp.cmpi .eq (BitVec.ofNat 32 i) (BitVec.ofNat 32 j) := by
  pointwise [k0_pay8]

/-- The scale of the tokens. -/
theorem pay9_at :
    k0_pay9 (F := Ideal) = Ideal.pow (Named.named (F := Ideal) κ "scale_sq" (φ := .f32) 0x41A4E123#32) (Ideal.ofBits .f32 0x3F000000#32) := by
  pointwise [k0_pay9]
  rfl

/-- The scaled tokens. -/
theorem pay10_at (v38 : Ideal .f32) (i : Fin 1024) (d : Fin 128) :
    k0_pay10 (F := Ideal) v38 x (ix2 i d) = (x (ix2 i d) : EReal) * v38 := by
  pointwise [k0_pay10]

/-- The second modality's similarities with the diagonal masked. -/
theorem pay12_at (v37 : IVec S1024x1024 1) (v38 : Ideal .f32) (i k : Fin 1024) :
    k0_pay12 (F := Ideal) v37 v38 x (ix2 i k) = Scalar.select (v37 (ix2 i k)) (Named.named (F := Ideal) κ "mask" (φ := .f32) 0xF149F2CA#32 : EReal)
      (∑ d : Fin 64, (k0_pay10 (F := Ideal) v38 x (ix2 i ⟨64 + d, by omega⟩) : EReal) * k0_pay10 (F := Ideal) v38 x (ix2 k ⟨64 + d, by omega⟩)) := by
  pointwise [k0_pay12]

/-- The part of the numerator that the classes give, less the first modality's part. -/
theorem pay11_at (v15 : FVec Ideal S16x1024 .f32) (v25 v28 : FVec Ideal S16x1 .f32) (v34 : FVec Ideal S1024x1 .f32)
    (v37 : IVec S1024x1024 1) (v38 : Ideal .f32) :
    k0_pay11 (F := Ideal) v15 v25 v28 v34 v37 v38 x
      = (∑ a : Fin 16, (v28 (ix2 a 0) : EReal)
            * ((∑ d : Fin 128, (∑ i : Fin 1024, (v15 (ix2 a i) : EReal) * k0_pay10 (F := Ideal) v38 x (ix2 i d))
                  * (∑ i : Fin 1024, (v15 (ix2 a i) : EReal) * k0_pay10 (F := Ideal) v38 x (ix2 i d)))
                - ∑ d : Fin 128, ∑ i : Fin 1024, (v15 (ix2 a i) : EReal)
                    * ((k0_pay10 (F := Ideal) v38 x (ix2 i d) : EReal) * k0_pay10 (F := Ideal) v38 x (ix2 i d)))
            * v25 (ix2 a 0))
        - ∑ i : Fin 1024, (v34 (ix2 i 0) : EReal) * rowLse fun k => Scalar.select (v37 (ix2 i k)) (Named.named (F := Ideal) κ "mask" (φ := .f32) 0xF149F2CA#32 : EReal)
            (∑ d : Fin 64, (k0_pay10 (F := Ideal) v38 x (ix2 i ⟨d, by omega⟩) : EReal) * k0_pay10 (F := Ideal) v38 x (ix2 k ⟨d, by omega⟩)) := by
  pointwise [k0_pay11]
  simp only [Fin.sum_univ_one, Finset.univ_unique, Finset.sum_singleton]
  rfl

/-- The stored number: the numerator, in natural logarithms, over minus two times the number of rows counted. -/
theorem pay1_at (v33 : Ideal .f32) (v34 : FVec Ideal S1024x1 .f32) (v79 : Ideal .f32) (v84 : FVec Ideal S1024x1024 .f32) :
    k0_pay1 (F := Ideal) v33 v34 v79 v84 (ix2 0 0)
      = Ideal.div (((v79 : EReal) - ∑ i : Fin 1024, (v34 (ix2 i 0) : EReal) * rowLse fun k => v84 (ix2 i k)) * Named.named (F := Ideal) κ "ln2" (φ := .f32) 0x3F317218#32)
          ((0 - Ideal.ofBits .f32 0x40000000#32) * (v33 : EReal)) := by
  pointwise [k0_pay1]
  simp only [Fin.sum_univ_one, Finset.univ_unique, Finset.sum_singleton]
  rfl

end Cert.KernelIdeal.Result

end
-- ==== Proof.Consts.lean ====
/- The float constants that the two programs spell, as the numbers they denote. -/
module

public import Idealize.ShloMosaic.PureOps.Ideal

@[expose] public section

noncomputable section

namespace Contrastive.Consts

open Idealize.ShloMosaic

/-- Zero. -/
theorem ofBits_zero : Ideal.ofBits .f32 0x00000000#32 = ((0 : ℝ) : EReal) := by
  simp [Ideal.ofBits, Ideal.ieee]

/-- A half, the exponent of the kernel's root. -/
theorem ofBits_half : Ideal.ofBits .f32 0x3F000000#32 = ((1 / 2 : ℝ) : EReal) := by
  simp [Ideal.ofBits, Ideal.ieee, -EReal.coe_mul]; norm_num

/-- Two, the number of modalities. -/
theorem ofBits_two : Ideal.ofBits .f32 0x40000000#32 = ((2 : ℝ) : EReal) := by
  simp [Ideal.ofBits, Ideal.ieee, -EReal.coe_mul]; norm_num

/-- Minus one, the sign of the loss. -/
theorem ofBits_neg_one : Ideal.ofBits .f32 0xBF800000#32 = ((-1 : ℝ) : EReal) := by
  simp [Ideal.ofBits, Ideal.ieee, -EReal.coe_mul]; norm_num

/-- Seven, the temperature's numerator. -/
theorem ofBits_seven : Ideal.ofBits .f32 0x40E00000#32 = ((7 : ℝ) : EReal) := by
  simp [Ideal.ofBits, Ideal.ieee, -EReal.coe_mul]; norm_num

/-- A hundred, the temperature's denominator. -/
theorem ofBits_hundred : Ideal.ofBits .f32 0x42C80000#32 = ((100 : ℝ) : EReal) := by
  simp [Ideal.ofBits, Ideal.ieee, -EReal.coe_mul]; norm_num

/-- Minus infinity, where a maximum starts and what a masked entry holds. -/
theorem ofBits_bot : Ideal.ofBits .f32 0xFF800000#32 = ⊥ := by
  simp [Ideal.ofBits, Ideal.ieee]

/-- Infinity, which every token's absolute value is compared with. -/
theorem ofBits_top : Ideal.ofBits .f32 0x7F800000#32 = ⊤ := by
  simp [Ideal.ofBits, Ideal.ieee]

end Contrastive.Consts

end
-- ==== Proof.Words.lean ====
/- Comparisons of index words and of labels, as comparisons of the numbers they hold. -/
module

public import Idealize.ShloMosaic.Lib.Affine
public import Idealize.ShloMosaic.Lib.StableHlo.Predicate
public import Idealize.ShloMosaic.Lib.IndicatorCount

@[expose] public section

namespace Contrastive

open Idealize.ShloMosaic

/-- Two words of numbers below `2 ^ 32` are equal exactly when the numbers are. -/
theorem word_eq_iff {a b : ℕ} (ha : a < 2 ^ 32) (hb : b < 2 ^ 32) : BitVec.ofNat 32 a = BitVec.ofNat 32 b ↔ a = b := by
  refine ⟨fun h => ?_, fun h => by rw [h]⟩
  have h' := congrArg BitVec.toNat h
  rwa [BitVec.toNat_ofNat, BitVec.toNat_ofNat, Nat.mod_eq_of_lt ha, Nat.mod_eq_of_lt hb] at h'

/-- The comparison's bit is 1 exactly when the numbers are equal. -/
theorem cmp_word_iff {a b : ℕ} (ha : a < 2 ^ 32) (hb : b < 2 ^ 32) :
    IntOp.cmpi .eq (BitVec.ofNat 32 a) (BitVec.ofNat 32 b) = 1#1 ↔ a = b :=
  IntOp.cmpi_eq.trans (word_eq_iff ha hb)

/-- The choice that a comparison of two such words makes. -/
theorem select_word {α : Type} {a b : ℕ} (ha : a < 2 ^ 32) (hb : b < 2 ^ 32) (u v : α) :
    Scalar.select (IntOp.cmpi .eq (BitVec.ofNat 32 a) (BitVec.ofNat 32 b)) u v = if a = b then u else v :=
  if_congr (cmp_word_iff ha hb) rfl rfl

/-- A count below `2 ^ 31`, read as a signed word, is the count. -/
theorem toInt_count {n : ℕ} (h : n < 2 ^ 31) : (BitVec.ofNat 32 n).toInt = n := StableHlo.Predicate.toInt_ofNat_small n h

/-- A count is above zero exactly when the signed comparison says so. -/
theorem cmp_pos_iff {n : ℕ} (h : n < 2 ^ 31) : IntOp.cmpi .sgt (BitVec.ofNat 32 n) 0#32 = 1#1 ↔ 0 < n := by
  rw [IntOp.cmpi_sgt, toInt_count h]
  exact Int.natCast_pos

/-- The larger of a count and one, as a signed word. -/
theorem toInt_max_one {n : ℕ} (h : n < 2 ^ 31) : (IntOp.maxsi (BitVec.ofNat 32 n) 1#32).toInt = ((max n 1 : ℕ) : ℤ) := by
  have h1 : (1#32 : BitVec 32).toInt = 1 := by decide
  by_cases hn : 1 < n
  · have hs : (1#32 : BitVec 32).slt (BitVec.ofNat 32 n) = true := by
      rw [BitVec.slt_iff_toInt_lt, toInt_count h, h1]
      exact_mod_cast hn
    rw [IntOp.maxsi, if_pos hs, toInt_count h, max_eq_left hn.le]
  · have hs : ¬(1#32 : BitVec 32).slt (BitVec.ofNat 32 n) = true := by
      rw [BitVec.slt_iff_toInt_lt, toInt_count h, h1]
      exact_mod_cast hn
    rw [IntOp.maxsi, if_neg hs, h1, max_eq_right (not_lt.1 hn)]
    rfl

end Contrastive
-- ==== Proof.Classes.lean ====
/- Rows sorted into classes. One program sums over the pairs of different rows of one class; the other takes, class by
   class, the square of the sum less the sum of the squares. This module states over the reals that the two agree, with
   the weights and the logarithms that both programs carry along. -/
module

public import Mathlib.Data.Real.Basic
public import Mathlib.Algebra.BigOperators.Group.Finset.Sigma
public import Mathlib.Algebra.BigOperators.Ring.Finset
public import Mathlib.Algebra.BigOperators.Field
public import Mathlib.Tactic.Ring
public import Mathlib.Tactic.Linarith
public import Mathlib.Tactic.LinearCombination

@[expose] public section

noncomputable section

namespace Contrastive

variable {ι κ : Type} [Fintype ι] [DecidableEq ι] [Fintype κ] [DecidableEq κ] (L : ι → κ)

/-- The number of rows of a class. -/
def size (a : κ) : ℕ := (Finset.univ.filter fun i => L i = a).card

/-- The number of other rows of a row's class. -/
def positives (i : ι) : ℕ := (Finset.univ.filter fun k => L i = L k ∧ i ≠ k).card

/-- 1 for a class of two rows or more, 0 for the others. -/
def paired (a : κ) : ℝ := if 1 < size L a then 1 else 0

/-- A row's class holds the row and its positives. -/
theorem size_eq (i : ι) : size L (L i) = positives L i + 1 := by
  have h : (Finset.univ.filter fun k => L i = L k ∧ i ≠ k) = (Finset.univ.filter fun k => L k = L i).erase i := by
    ext k
    simp only [Finset.mem_filter, Finset.mem_univ, true_and, Finset.mem_erase]
    exact ⟨fun h => ⟨h.2.symm, h.1.symm⟩, fun h => ⟨h.2.symm, h.1.symm⟩⟩
  have hm : i ∈ Finset.univ.filter fun k => L k = L i := by simp
  rw [positives, size, h, Finset.card_erase_add_one hm]

/-- A row's class has two rows exactly when the row has a positive. -/
theorem paired_eq (i : ι) : paired L (L i) = if 0 < positives L i then 1 else 0 := by
  rw [paired, size_eq]
  exact if_congr (by omega) rfl rfl

/-- A sum over the classes of a value for each row of the class is the sum over the rows. -/
theorem sum_classes (g : κ → ℝ) (f : ι → ℝ) : ∑ a, g a * ∑ i, (if L i = a then f i else 0) = ∑ i, g (L i) * f i := by
  simp only [Finset.mul_sum]
  rw [Finset.sum_comm]
  refine Finset.sum_congr rfl fun i _ => ?_
  simp only [mul_ite, mul_zero, Finset.sum_ite_eq, Finset.mem_univ, if_true]

/-- The rows that have a positive, counted class by class. -/
theorem sum_size_paired :
    ∑ a, (size L a : ℝ) * paired L a = ((Finset.univ.filter fun i => 0 < positives L i).card : ℝ) := by
  have h : ∀ a, (size L a : ℝ) * paired L a = paired L a * ∑ i, (if L i = a then (1 : ℝ) else 0) := fun a => by
    rw [mul_comm, size, Finset.sum_boole]
  rw [Finset.sum_congr rfl fun a _ => h a, sum_classes]
  simp only [paired_eq, mul_one, Finset.sum_boole]

/-- In one class, the square of the sum less the sum of the squares is the sum over the ordered pairs of different
    rows. -/
theorem square_sub_squares (a : κ) (w : ι → ℝ) :
    (∑ i, (if L i = a then 1 else 0) * w i) * (∑ i, (if L i = a then 1 else 0) * w i) - ∑ i, (if L i = a then 1 else 0) * (w i * w i)
      = ∑ i, if L i = a then (∑ k, if L i = L k ∧ i ≠ k then w i * w k else 0) else 0 := by
  rw [Finset.sum_mul, ← Finset.sum_sub_distrib]
  refine Finset.sum_congr rfl fun i _ => ?_
  by_cases hi : L i = a
  · rw [if_pos hi, if_pos hi, one_mul, one_mul, Finset.mul_sum, sub_eq_iff_eq_add,
      ← Finset.sum_erase_add _ _ (Finset.mem_univ i), ← Finset.sum_erase_add (a := i) Finset.univ _ (Finset.mem_univ i),
      if_pos hi, one_mul, if_neg fun h : L i = L i ∧ i ≠ i => h.2 rfl, add_zero]
    refine congrArg (· + _) (Finset.sum_congr rfl fun k hk => ?_)
    have hne : i ≠ k := fun h => (Finset.mem_erase.1 hk).1 h.symm
    by_cases hk' : L k = a
    · rw [if_pos hk', one_mul, if_pos ⟨hi.trans hk'.symm, hne⟩]
    · rw [if_neg hk', zero_mul, mul_zero, if_neg fun h => hk' (h.1.symm.trans hi)]
  · rw [if_neg hi, if_neg hi, zero_mul, zero_mul, zero_mul, sub_zero]

/-- The same for rows of vectors: the squares and the products are summed over the features. -/
theorem square_sub_squares_features {δ : Type} [Fintype δ] (a : κ) (w : ι → δ → ℝ) :
    ((∑ d, (∑ i, (if L i = a then 1 else 0) * w i d) * (∑ i, (if L i = a then 1 else 0) * w i d))
        - ∑ d, ∑ i, (if L i = a then 1 else 0) * (w i d * w i d))
      = ∑ i, if L i = a then (∑ k, if L i = L k ∧ i ≠ k then ∑ d, w i d * w k d else 0) else 0 := by
  rw [← Finset.sum_sub_distrib, Finset.sum_congr rfl fun d _ => square_sub_squares L a fun i => w i d, Finset.sum_comm]
  refine Finset.sum_congr rfl fun i _ => ?_
  split
  · rw [Finset.sum_comm]
    refine Finset.sum_congr rfl fun k _ => ?_
    split
    · rfl
    · exact Finset.sum_const_zero
  · exact Finset.sum_const_zero

/-- One class's part of the numerator: whether it has two rows, times the sum over its pairs, times the reciprocal of
    the number of positives of each of its rows. -/
def classPart {δ : Type} [Fintype δ] (w : ι → δ → ℝ) (a : κ) : ℝ :=
  paired L a * ((∑ d, (∑ i, (if L i = a then 1 else 0) * w i d) * (∑ i, (if L i = a then 1 else 0) * w i d))
      - ∑ d, ∑ i, (if L i = a then 1 else 0) * (w i d * w i d)) * (1 / max ((size L a : ℝ) - 1) 1)

/-- The sum of a row's values over its positives. -/
def positiveTotal (S : ι → ι → ℝ) (i : ι) : ℝ := ∑ k, if L i = L k ∧ i ≠ k then S i k else 0

/-- The rows' means over their positives of a value less a number of the row, added up; a row without a positive counts
    as 0. -/
def meanTotal (S : ι → ι → ℝ) (ℓ : ι → ℝ) : ℝ :=
  ∑ i, if 0 < positives L i then (∑ k, if L i = L k ∧ i ≠ k then S i k - ℓ i else 0) / max (positives L i : ℝ) 1 else 0

/-- The classes' parts, added up, are a sum over the rows. -/
theorem sum_classPart {δ : Type} [Fintype δ] (w : ι → δ → ℝ) :
    ∑ a, classPart L w a
      = ∑ i, paired L (L i) * (1 / max (positives L i : ℝ) 1) * positiveTotal L (fun i k => ∑ d, w i d * w k d) i := by
  have h : ∀ a, classPart L w a = (paired L a * (1 / max ((size L a : ℝ) - 1) 1))
      * ∑ i, (if L i = a then positiveTotal L (fun i k => ∑ d, w i d * w k d) i else 0) := fun a => by
    rw [classPart, square_sub_squares_features]
    exact mul_right_comm _ _ _
  rw [Finset.sum_congr rfl fun a _ => h a, sum_classes]
  refine Finset.sum_congr rfl fun i _ => ?_
  rw [size_eq, Nat.cast_add, Nat.cast_one, add_sub_cancel_right]

/-- The rows' means split into the means of the values and the rows' own numbers. -/
theorem meanTotal_eq (S : ι → ι → ℝ) (ℓ : ι → ℝ) :
    meanTotal L S ℓ
      = ∑ i, paired L (L i) * (1 / max (positives L i : ℝ) 1) * positiveTotal L S i - ∑ i, paired L (L i) * ℓ i := by
  rw [meanTotal, ← Finset.sum_sub_distrib]
  refine Finset.sum_congr rfl fun i _ => ?_
  rw [paired_eq]
  by_cases h : 0 < positives L i
  · have h1 : (1 : ℝ) ≤ positives L i := by exact_mod_cast h
    have hs : (∑ k, if L i = L k ∧ i ≠ k then S i k - ℓ i else 0) = positiveTotal L S i - (positives L i : ℝ) * ℓ i := by
      rw [positiveTotal, positives, ← Finset.sum_boole, Finset.sum_mul, ← Finset.sum_sub_distrib]
      refine Finset.sum_congr rfl fun k _ => ?_
      split
      · rw [one_mul]
      · rw [zero_mul, sub_zero]
    rw [if_pos h, if_pos h, hs, max_eq_left h1, sub_div, mul_div_cancel_left₀ _ (by linarith : (positives L i : ℝ) ≠ 0)]
    ring
  · rw [if_neg h, if_neg h]
    ring

/-- The numerators agree. `w` holds the rows of both modalities side by side, scaled so that a product of two rows is
    `r` times the sum of the two similarities; the row numbers are taken `r` times as well; `q` undoes `r`. -/
theorem numerators_agree {δ : Type} [Fintype δ] (w : ι → δ → ℝ) (S₀ S₁ : ι → ι → ℝ) (ℓ₀ ℓ₁ : ι → ℝ) (r q : ℝ) (hrq : r * q = 1)
    (hw : ∀ i k, ∑ d, w i d * w k d = r * (S₀ i k + S₁ i k)) :
    ((∑ a, classPart L w a - ∑ i, paired L (L i) * (r * ℓ₀ i)) - ∑ i, paired L (L i) * (r * ℓ₁ i)) * q
      = meanTotal L S₀ ℓ₀ + meanTotal L S₁ ℓ₁ := by
  have hp : ∀ i, positiveTotal L (fun i k => ∑ d, w i d * w k d) i = r * (positiveTotal L S₀ i + positiveTotal L S₁ i) := fun i => by
    rw [positiveTotal, positiveTotal, positiveTotal, ← Finset.sum_add_distrib, Finset.mul_sum]
    refine Finset.sum_congr rfl fun k _ => ?_
    split
    · exact hw i k
    · rw [add_zero, mul_zero]
  rw [sum_classPart, meanTotal_eq, meanTotal_eq, ← Finset.sum_sub_distrib, ← Finset.sum_sub_distrib, ← Finset.sum_sub_distrib,
    ← Finset.sum_sub_distrib, ← Finset.sum_add_distrib, Finset.sum_mul]
  refine Finset.sum_congr rfl fun i _ => ?_
  rw [hp]
  linear_combination (paired L (L i) * (1 / max (positives L i : ℝ) 1) * (positiveTotal L S₀ i + positiveTotal L S₁ i)
    - paired L (L i) * ℓ₀ i - paired L (L i) * ℓ₁ i) * hrq

end Contrastive

end
-- ==== Proof.LogSumExp.lean ====
/- The logarithm of a sum of exponentials over all entries of a row but one. A program fills the entry left out with
   minus infinity, takes the largest entry away, adds up the powers and puts the largest entry back: over the extended
   reals this is the logarithm of the plain sum, to base e and to base 2. -/
module

public import Idealize.ShloMosaic.PureOps.Ideal
public import Mathlib.Analysis.SpecialFunctions.Pow.Real

@[expose] public section

noncomputable section

namespace Contrastive

open Idealize.ShloMosaic

/-- A finite sum of reals is the same sum over the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {ι : Type} [Fintype ι] [DecidableEq ι]

/-- A row with minus infinity at the entry `i`. -/
def holed (i : ι) (S : ι → ℝ) (k : ι) : EReal := if i = k then ⊥ else (S k : EReal)

/-- The logarithm of the sum of the exponentials of a row's entries other than the entry `i`. -/
def lseOthers (i : ι) (S : ι → ℝ) : ℝ := Real.log (∑ k, if i = k then 0 else Real.exp (S k))

/-- The largest entry of a row with one hole is a real number, provided the row has another entry. -/
theorem fold_max_holed (i : ι) (hne : ∃ k, i ≠ k) (S : ι → ℝ) :
    ∃ M : ℝ, Finset.univ.fold max ⊥ (holed i S) = (M : EReal) := by
  obtain ⟨k, hk⟩ := hne
  have hs : Finset.univ.fold max ⊥ (holed i S) = Finset.univ.sup (holed i S) := rfl
  have hbot : Finset.univ.sup (holed i S) ≠ ⊥ := by
    have h := Finset.le_sup (f := holed i S) (Finset.mem_univ k)
    rw [holed, if_neg hk] at h
    exact ne_bot_of_le_ne_bot (EReal.coe_ne_bot _) h
  have htop : Finset.univ.sup (holed i S) ≠ ⊤ := by
    refine ne_of_lt ((Finset.sup_lt_iff bot_lt_top).2 fun j _ => ?_)
    unfold holed
    split
    · exact bot_lt_top
    · exact EReal.coe_lt_top _
  exact ⟨_, hs.trans (EReal.coe_toReal htop hbot).symm⟩

/-- The sum of the exponentials of a row's other entries is positive. -/
theorem sum_others_pos (i : ι) (hne : ∃ k, i ≠ k) (S : ι → ℝ) : 0 < ∑ k, if i = k then 0 else Real.exp (S k) := by
  obtain ⟨k, hk⟩ := hne
  refine Finset.sum_pos' (fun j _ => ?_) ⟨k, Finset.mem_univ k, ?_⟩
  · split
    · exact le_rfl
    · exact (Real.exp_pos _).le
  · rw [if_neg hk]
    exact Real.exp_pos _

/-- A number taken away from every entry of a row comes off the logarithm of the sum. -/
theorem lseOthers_sub (i : ι) (hne : ∃ k, i ≠ k) (S : ι → ℝ) (M : ℝ) : lseOthers i (fun k => S k - M) + M = lseOthers i S := by
  have h : ∀ k, (if i = k then 0 else Real.exp (S k - M)) = (if i = k then 0 else Real.exp (S k)) * Real.exp (-M) := fun k => by
    split
    · rw [zero_mul]
    · rw [sub_eq_add_neg, Real.exp_add]
  unfold lseOthers
  rw [Finset.sum_congr rfl fun k _ => h k, ← Finset.sum_mul,
    Real.log_mul (sum_others_pos i hne S).ne' (Real.exp_pos _).ne', Real.log_exp]
  ring

/-- With the largest entry taken out of the exponentials and put back after the logarithm, a row with a hole gives the
    logarithm of the sum over its other entries. -/
theorem log_sum_exp_holed (i : ι) (hne : ∃ k, i ≠ k) (S : ι → ℝ) :
    Ideal.log (∑ k, Ideal.exp (holed i S k - Finset.univ.fold max ⊥ (holed i S))) + Finset.univ.fold max ⊥ (holed i S)
      = (lseOthers i S : EReal) := by
  obtain ⟨M, hM⟩ := fold_max_holed i hne S
  have h : ∀ k, Ideal.exp (holed i S k - (M : EReal)) = ((if i = k then 0 else Real.exp (S k - M) : ℝ) : EReal) := fun k => by
    unfold holed
    split
    · rw [EReal.bot_sub, Ideal.exp_bot, EReal.coe_zero]
    · rw [← EReal.coe_sub, Ideal.exp_coe]
  rw [hM, Finset.sum_congr rfl fun k _ => h k, ← coe_sum, Ideal.log_coe,
    if_neg (not_le.2 (sum_others_pos i hne fun k => S k - M)), ← EReal.coe_add]
  exact congrArg _ (lseOthers_sub i hne S M)

/-- The same to base 2, for a row that holds the entries over the natural logarithm of 2: the logarithm, to base 2, of
    the sum of the powers of 2 is the natural logarithm of the sum of the exponentials, over that of 2. -/
theorem log_sum_exp2_holed (i : ι) (hne : ∃ k, i ≠ k) (S : ι → ℝ) :
    Finset.univ.fold max ⊥ (holed i fun k => (Real.log 2)⁻¹ * S k)
        + Ideal.log (∑ k, Ideal.exp2 (holed i (fun k => (Real.log 2)⁻¹ * S k) k
            - Finset.univ.fold max ⊥ (holed i fun k => (Real.log 2)⁻¹ * S k))) * (((Real.log 2)⁻¹ : ℝ) : EReal)
      = (((Real.log 2)⁻¹ * lseOthers i S : ℝ) : EReal) := by
  obtain ⟨M, hM⟩ := fold_max_holed i hne fun k => (Real.log 2)⁻¹ * S k
  have h2 : Real.log 2 ≠ 0 := (Real.log_pos one_lt_two).ne'
  have h : ∀ k, Ideal.exp2 (holed i (fun k => (Real.log 2)⁻¹ * S k) k - (M : EReal))
      = ((if i = k then 0 else Real.exp (S k - Real.log 2 * M) : ℝ) : EReal) := fun k => by
    unfold holed
    split
    · rw [EReal.bot_sub, Ideal.exp2_bot, EReal.coe_zero]
    · rw [← EReal.coe_sub, Ideal.exp2_coe]
      refine congrArg _ ((Real.rpow_def_of_pos two_pos _).trans (congrArg _ ?_))
      rw [mul_sub, ← mul_assoc, mul_inv_cancel₀ h2, one_mul]
  rw [hM, Finset.sum_congr rfl fun k _ => h k, ← coe_sum, Ideal.log_coe,
    if_neg (not_le.2 (sum_others_pos i hne fun k => S k - Real.log 2 * M)), ← EReal.coe_mul, ← EReal.coe_add,
    ← lseOthers_sub i hne S (Real.log 2 * M), mul_add, ← mul_assoc, inv_mul_cancel₀ h2, one_mul]
  refine congrArg _ ?_
  unfold lseOthers
  ring

end Contrastive

end
-- ==== Proof.Loss.lean ====
/- The loss over the reals: `L` gives each of the 1024 samples a class, `U` and `V` hold the two modalities' tokens. Both
   programs return `numerator` over `divisor`. -/
module

public import proofs.«01_k».proof.Proof.Classes
public import proofs.«01_k».proof.Proof.LogSumExp

@[expose] public section

noncomputable section

namespace Contrastive

/-- The dot product of two samples' tokens over the temperature of 7/100. -/
def similarity (U : Fin 1024 → Fin 64 → ℝ) (i k : Fin 1024) : ℝ := (∑ d, U i d * U k d) * (100 / 7)

/-- The logarithm of a sample's sum of exponentials over the other samples. -/
def logTotal (U : Fin 1024 → Fin 64 → ℝ) (i : Fin 1024) : ℝ := lseOthers i (similarity U i)

/-- The samples' mean log probabilities of their positives, added up over samples and modalities. -/
def numerator (L : Fin 1024 → Fin 16) (U V : Fin 1024 → Fin 64 → ℝ) : ℝ :=
  meanTotal L (similarity U) (logTotal U) + meanTotal L (similarity V) (logTotal V)

/-- Minus the number of pairs of a modality and a sample that has a positive. -/
def divisor (L : Fin 1024 → Fin 16) : ℝ := -(2 * ((Finset.univ.filter fun i => 0 < positives L i).card : ℝ))

/-- Every sample has another one beside it. -/
theorem exists_other (i : Fin 1024) : ∃ k, i ≠ k :=
  if h : i = 0 then ⟨1, by subst h; decide⟩ else ⟨0, h⟩

/-- The samples' classes counted never pass the number of samples. -/
theorem positives_le (L : Fin 1024 → Fin 16) (i : Fin 1024) : positives L i ≤ 1024 :=
  (Finset.card_le_univ _).trans (by simp)

end Contrastive

end
-- ==== Proof.KernelReal.lean ====
/- The kernel's payloads over real tokens and known classes: each is a real number, up to the last quotient. -/
module

public import proofs.«01_k».proof.Proof.KernelReads
public import proofs.«01_k».proof.Proof.Consts
public import proofs.«01_k».proof.Proof.Words
public import proofs.«01_k».proof.Proof.Loss
public import Mathlib.Analysis.SpecialFunctions.Pow.NNReal

@[expose] public section

set_option maxRecDepth 16384

noncomputable section

open Idealize.ShloMosaic Idealize.ShloMosaic.TcCoe Idealize.SL.Sem Contrastive

namespace Cert.KernelIdeal.Result

open Cert.KernelIdeal Cert.KernelIdeal.Gen

/-! ## The named constants -/

/-- The square of the tokens' scale, over the reals. -/
def scaleSq : ℝ := (Real.log 2)⁻¹ * (100 / 7)

theorem scale_sq_named : Named.named (F := Ideal) κ "scale_sq" (φ := .f32) 0x41A4E123#32 = (scaleSq : EReal) :=
  IdealRules.named_const.ideal_named_scalar _ _ _ _ rfl

theorem mask_named : Named.named (F := Ideal) κ "mask" (φ := .f32) 0xF149F2CA#32 = (⊥ : EReal) :=
  IdealRules.named_const.ideal_named_scalar _ _ _ _ rfl

theorem log2e_named : Named.named (F := Ideal) κ "log2e" (φ := .f32) 0x3FB8AA3B#32 = (((Real.log 2)⁻¹ : ℝ) : EReal) :=
  IdealRules.named_const.ideal_named_scalar _ _ _ _ rfl

theorem ln2_named : Named.named (F := Ideal) κ "ln2" (φ := .f32) 0x3F317218#32 = ((Real.log 2 : ℝ) : EReal) :=
  IdealRules.named_const.ideal_named_scalar _ _ _ _ rfl

/-- The square of the scale is not negative. -/
theorem scaleSq_nonneg : 0 ≤ scaleSq := mul_nonneg (inv_nonneg.2 (Real.log_nonneg one_le_two)) (by norm_num)

variable (x : FVec Ideal S1024x128 .f32) (lc : IVec S1024x1 32) (lr : IVec S1x1024 32)
variable (X : Fin 1024 → Fin 128 → ℝ) (L : Fin 1024 → Fin 16)

/-! ## The classes -/

/-- The one-hot matrix holds 1 where the row is of the class. -/
theorem pay2_real (hr : ∀ i, lr (ix2 0 i) = BitVec.ofNat 32 (L i)) (a : Fin 16) (i : Fin 1024) :
    k0_pay2 (F := Ideal) lr (ix2 a i) = ((if L i = a then (1 : ℝ) else 0 : ℝ) : EReal) := by
  rw [pay2_at, hr, select_word (by omega) (by omega), apply_ite Real.toEReal]
  exact if_congr (by rw [Fin.ext_iff, eq_comm]) rfl rfl

/-- The class count is the class's size. -/
theorem pay3_real (hr : ∀ i, lr (ix2 0 i) = BitVec.ofNat 32 (L i)) (a : Fin 16) :
    k0_pay3 (F := Ideal) lr (ix2 a 0) = ((size L a : ℝ) : EReal) := by
  rw [pay3_at, Finset.sum_congr rfl fun i _ => pay2_real lr L hr a i, ← coe_sum, Finset.sum_boole]
  rfl

/-- The class's reciprocal. -/
theorem pay4_real (hr : ∀ i, lr (ix2 0 i) = BitVec.ofNat 32 (L i)) (a : Fin 16) :
    k0_pay4 (F := Ideal) lr (ix2 a 0) = ((1 / max ((size L a : ℝ) - 1) 1 : ℝ) : EReal) := by
  have h : (max ((size L a : ℝ) - 1) 1 : ℝ) ≠ 0 := (lt_of_lt_of_le one_pos (le_max_right _ _)).ne'
  rw [pay4_at, pay3_real lr L hr, ← EReal.coe_one, ← EReal.coe_sub, ← EReal.coe_strictMono.monotone.map_max, Ideal.div_coe h,
    EReal.coe_one, one_mul]

/-- Whether the class has two rows. -/
theorem pay5_real (hr : ∀ i, lr (ix2 0 i) = BitVec.ofNat 32 (L i)) (a : Fin 16) :
    k0_pay5 (F := Ideal) lr (ix2 a 0) = (paired L a : EReal) := by
  rw [pay5_at, pay3_real lr L hr, paired, apply_ite Real.toEReal]
  refine if_congr ?_ rfl rfl
  rw [← EReal.coe_one, EReal.coe_lt_coe_iff]
  exact Nat.one_lt_cast

/-- The number of rows whose class has two. -/
theorem pay6_real (hr : ∀ i, lr (ix2 0 i) = BitVec.ofNat 32 (L i)) :
    k0_pay6 (F := Ideal) lr = (((Finset.univ.filter fun i => 0 < positives L i).card : ℝ) : EReal) := by
  rw [pay6_at, ← sum_size_paired, coe_sum]
  exact Finset.sum_congr rfl fun a _ => by rw [pay3_real lr L hr, pay5_real lr L hr, EReal.coe_mul]

/-- Whether the row's class has two rows. -/
theorem pay7_real (hr : ∀ i, lr (ix2 0 i) = BitVec.ofNat 32 (L i)) (hc : ∀ i, lc (ix2 i 0) = BitVec.ofNat 32 (L i)) (i : Fin 1024) :
    k0_pay7 (F := Ideal) lc lr (ix2 i 0) = (paired L (L i) : EReal) := by
  have h : ∀ a : Fin 16, Scalar.select (IntOp.cmpi .eq (lc (ix2 i 0)) (BitVec.ofNat 32 a)) (k0_pay5 (F := Ideal) lr (ix2 a 0) : EReal) 0
      = if L i = a then (paired L a : EReal) else 0 := fun a => by
    rw [hc, select_word (by omega) (by omega), pay5_real lr L hr]
    exact if_congr Fin.ext_iff.symm rfl rfl
  rw [pay7_at, Finset.sum_congr rfl fun a _ => h a, Finset.sum_ite_eq, if_pos (Finset.mem_univ _)]

/-! ## The similarities -/

/-- The scale is the root of its square. -/
theorem pay9_real : k0_pay9 (F := Ideal) = ((√scaleSq : ℝ) : EReal) := by
  rw [pay9_at, scale_sq_named, Consts.ofBits_half, Ideal.pow_coe_coe, Real.sqrt_eq_rpow]
  rfl

/-- The scaled tokens. -/
theorem pay10_real (hx : ∀ i d, x (ix2 i d) = (X i d : EReal)) (i : Fin 1024) (d : Fin 128) :
    k0_pay10 (F := Ideal) (k0_pay9 (F := Ideal)) x (ix2 i d) = ((X i d * √scaleSq : ℝ) : EReal) := by
  rw [pay10_at, pay9_real, hx, EReal.coe_mul]

/-- A masked row of similarities of one modality, whose features are 64 of the 128: minus infinity at the row's own
    entry, and elsewhere the similarity over the logarithm of 2. -/
theorem masked_row (hx : ∀ i d, x (ix2 i d) = (X i d : EReal)) (e : Fin 64 → Fin 128) (i k : Fin 1024) :
    Scalar.select (k0_pay8 (ix2 i k)) (Named.named (F := Ideal) κ "mask" (φ := .f32) 0xF149F2CA#32 : EReal)
        (∑ d : Fin 64, (k0_pay10 (F := Ideal) (k0_pay9 (F := Ideal)) x (ix2 i (e d)) : EReal) * k0_pay10 (F := Ideal) (k0_pay9 (F := Ideal)) x (ix2 k (e d)))
      = holed i (fun k => (Real.log 2)⁻¹ * similarity (fun i d => X i (e d)) i k) k := by
  rw [pay8_at, select_word (by omega) (by omega), mask_named, holed]
  refine if_congr Fin.ext_iff.symm rfl ?_
  rw [Finset.sum_congr rfl fun d _ => by rw [pay10_real x X hx, pay10_real x X hx, ← EReal.coe_mul], ← coe_sum]
  refine congrArg _ ?_
  have h : ∀ d, X i (e d) * √scaleSq * (X k (e d) * √scaleSq) = scaleSq * (X i (e d) * X k (e d)) := fun d => by
    rw [mul_mul_mul_comm, Real.mul_self_sqrt scaleSq_nonneg, mul_comm]
  rw [Finset.sum_congr rfl fun d _ => h d, ← Finset.mul_sum, scaleSq, similarity]
  ring

/-- The logarithm, to base 2, of a masked row's powers of 2. -/
theorem rowLse_real (U : Fin 1024 → Fin 64 → ℝ) (i : Fin 1024) :
    rowLse (holed i fun k => (Real.log 2)⁻¹ * similarity U i k) = (((Real.log 2)⁻¹ * logTotal U i : ℝ) : EReal) := by
  rw [rowLse, Consts.ofBits_bot, log2e_named]
  exact log_sum_exp2_holed i (exists_other i) (similarity U i)

/-- The rows' logarithms, added up where a row has a positive. -/
theorem sum_rowLse (hr : ∀ i, lr (ix2 0 i) = BitVec.ofNat 32 (L i)) (hc : ∀ i, lc (ix2 i 0) = BitVec.ofNat 32 (L i))
    (U : Fin 1024 → Fin 64 → ℝ) (row : Fin 1024 → Fin 1024 → EReal)
    (hrow : ∀ i k, row i k = holed i (fun k => (Real.log 2)⁻¹ * similarity U i k) k) :
    ∑ i : Fin 1024, (k0_pay7 (F := Ideal) lc lr (ix2 i 0) : EReal) * rowLse (row i)
      = ((∑ i, paired L (L i) * ((Real.log 2)⁻¹ * logTotal U i) : ℝ) : EReal) := by
  rw [coe_sum]
  refine Finset.sum_congr rfl fun i _ => ?_
  rw [pay7_real lc lr L hr hc, show row i = _ from funext (hrow i), rowLse_real, ← EReal.coe_mul]

/-! ## The numerator -/

/-- A class's part. -/
theorem classPart_real (hx : ∀ i d, x (ix2 i d) = (X i d : EReal)) (hr : ∀ i, lr (ix2 0 i) = BitVec.ofNat 32 (L i)) (a : Fin 16) :
    (k0_pay5 (F := Ideal) lr (ix2 a 0) : EReal)
        * ((∑ d : Fin 128, (∑ i : Fin 1024, (k0_pay2 (F := Ideal) lr (ix2 a i) : EReal) * k0_pay10 (F := Ideal) (k0_pay9 (F := Ideal)) x (ix2 i d))
              * (∑ i : Fin 1024, (k0_pay2 (F := Ideal) lr (ix2 a i) : EReal) * k0_pay10 (F := Ideal) (k0_pay9 (F := Ideal)) x (ix2 i d)))
            - ∑ d : Fin 128, ∑ i : Fin 1024, (k0_pay2 (F := Ideal) lr (ix2 a i) : EReal)
                * ((k0_pay10 (F := Ideal) (k0_pay9 (F := Ideal)) x (ix2 i d) : EReal) * k0_pay10 (F := Ideal) (k0_pay9 (F := Ideal)) x (ix2 i d)))
        * k0_pay4 (F := Ideal) lr (ix2 a 0)
      = (classPart L (fun i d => X i d * √scaleSq) a : EReal) := by
  simp only [pay5_real lr L hr, pay4_real lr L hr, pay2_real lr L hr, pay10_real x X hx, ← EReal.coe_mul, ← coe_sum, ← EReal.coe_sub]
  rfl

/-- The classes' parts less the first modality's logarithms. -/
theorem pay11_real (hx : ∀ i d, x (ix2 i d) = (X i d : EReal)) (hr : ∀ i, lr (ix2 0 i) = BitVec.ofNat 32 (L i))
    (hc : ∀ i, lc (ix2 i 0) = BitVec.ofNat 32 (L i)) :
    k0_pay11 (k0_pay2 (F := Ideal) lr) (k0_pay4 (F := Ideal) lr) (k0_pay5 (F := Ideal) lr) (k0_pay7 (F := Ideal) lc lr)
        k0_pay8 (k0_pay9 (F := Ideal)) x
      = ((∑ a, classPart L (fun i d => X i d * √scaleSq) a
          - ∑ i, paired L (L i) * ((Real.log 2)⁻¹ * logTotal (fun i d => X i ⟨d, by omega⟩) i) : ℝ) : EReal) := by
  rw [pay11_at, Finset.sum_congr rfl fun a _ => classPart_real x lr X L hx hr a, ← coe_sum,
    sum_rowLse lc lr L hr hc (fun i d => X i ⟨d, by omega⟩) _ fun i k => masked_row x X hx (fun d => ⟨d, by omega⟩) i k,
    ← EReal.coe_sub]

/-- Two products of scaled rows, over all 128 features, make the two modalities' similarities. -/
theorem scaled_products (i k : Fin 1024) :
    ∑ d : Fin 128, X i d * √scaleSq * (X k d * √scaleSq)
      = (Real.log 2)⁻¹ * (similarity (fun i (d : Fin 64) => X i ⟨d, by omega⟩) i k + similarity (fun i (d : Fin 64) => X i ⟨64 + d, by omega⟩) i k) := by
  have h : ∀ d, X i d * √scaleSq * (X k d * √scaleSq) = scaleSq * (X i d * X k d) := fun d => by
    rw [mul_mul_mul_comm, Real.mul_self_sqrt scaleSq_nonneg, mul_comm]
  have hs : ∑ d : Fin 128, X i d * X k d
      = (∑ d : Fin 64, X i ⟨d, by omega⟩ * X k ⟨d, by omega⟩) + ∑ d : Fin 64, X i ⟨64 + d, by omega⟩ * X k ⟨64 + d, by omega⟩ :=
    Fin.sum_univ_add (a := 64) (b := 64) fun d => X i d * X k d
  rw [Finset.sum_congr rfl fun d _ => h d, ← Finset.mul_sum, hs, scaleSq, similarity, similarity]
  ring

/-- The stored number is the loss. -/
theorem stored_real (hx : ∀ i d, x (ix2 i d) = (X i d : EReal)) (hr : ∀ i, lr (ix2 0 i) = BitVec.ofNat 32 (L i))
    (hc : ∀ i, lc (ix2 i 0) = BitVec.ofNat 32 (L i)) :
    stored x lc lr (ix2 0 0)
      = Ideal.div (numerator L (fun i d => X i ⟨d, by omega⟩) (fun i d => X i ⟨64 + d, by omega⟩) : EReal) (Contrastive.divisor L : EReal) := by
  have h2 : (Real.log 2)⁻¹ * Real.log 2 = 1 := inv_mul_cancel₀ (Real.log_pos one_lt_two).ne'
  rw [stored, pay1_at, pay11_real x lc lr X L hx hr hc, pay6_real lr L hr, ln2_named,
    sum_rowLse lc lr L hr hc (fun i d => X i ⟨64 + d, by omega⟩) _ fun i k =>
      (pay12_at x k0_pay8 (k0_pay9 (F := Ideal)) i k).trans (masked_row x X hx (fun d => ⟨64 + d, by omega⟩) i k),
    ← EReal.coe_sub, ← EReal.coe_mul, Consts.ofBits_two,
    numerators_agree L (fun i d => X i d * √scaleSq) _ _ _ _ _ _ h2 (scaled_products X)]
  refine congrArg _ ?_
  rw [← EReal.coe_zero, ← EReal.coe_sub, ← EReal.coe_mul, Contrastive.divisor, zero_sub, neg_mul]

end Cert.KernelIdeal.Result

end
-- ==== Proof.KernelLayout.lean ====
/- The kernel's three operands are reshapes of its two arguments, and its result a reshape of the stored block: their
   entries in the arguments' terms. -/
module

public import proofs.«01_k».proof.Proof.KernelRun
public import Idealize.ShloMosaic.Lib.Pointwise

@[expose] public section

set_option maxRecDepth 16384

noncomputable section

open Idealize.ShloMosaic Idealize.ShloMosaic.TcCoe Idealize.SL.Sem

namespace Cert.KernelIdeal.Result

open Cert.KernelIdeal Cert.KernelIdeal.Gen

variable (tokens : FVec Ideal S1024x2x64 .f32) (labels : IVec S1024 32)

/-- A row of 128 features holds the first modality's 64 and then the second's. -/
theorem tokens_at (i : Fin 1024) (d : Fin 128) :
    shapeCast S1024x128 tokens shapeCasts_S1024x2x64_S1024x128 (ix2 i d) = tokens (ix3 i ⟨d / 64, by omega⟩ ⟨d % 64, by omega⟩) := by
  pointwise

/-- The labels as a column. -/
theorem column_at (i : Fin 1024) : shapeCast S1024x1 labels shapeCasts_S1024_S1024x1 (ix2 i 0) = labels (ix1 i) := by
  pointwise

/-- The labels as a row. -/
theorem row_at (i : Fin 1024) : shapeCast S1x1024 labels shapeCasts_S1024_S1x1024 (ix2 0 i) = labels (ix1 i) := by
  pointwise

/-- The block's one entry as a scalar. -/
theorem scalar_at (b : FVec Ideal S1x1 .f32) : shapeCast S_ b shapeCasts_S1x1_S_ ix0 = b (ix2 0 0) := by
  pointwise

end Cert.KernelIdeal.Result

end
-- ==== Proof.ReferenceRun.lean ====
/- What the reference's run leaves in its result, written step by step as a function of its two arguments: the mask of
   the positive pairs, how many of them each row has, the similarities of one modality, and the mean log probability of
   each row. -/
module

public import proofs.«01_k».proof.Proof.Gen.ReferenceIdeal.Run
public import Idealize.ShloMosaic.PureOps.Ideal

@[expose] public section

set_option maxRecDepth 16384

noncomputable section

open Idealize.ShloMosaic Idealize.ShloMosaic.TcCoe Idealize.SL.Sem

namespace Cert.ReferenceIdeal.Result

open Cert.ReferenceIdeal Cert.ReferenceIdeal.Gen

/-- The bit that says whether a row and a column are the same sample. -/
def same : IVec S1024x1024 1 :=
  cmpi .eq (addi (iotaInDim S1024x1024 32 0) (broadcastInDim S1024x1024 ![] bcast_S_S1024x1024 (constantI S_ 32 0#32))) (iotaInDim S1024x1024 32 1)

/-- The bit that says whether two samples are different and have the same label. -/
def positive (labels : IVec S1024 32) : IVec S1024x1024 1 :=
  andi (cmpi .eq (broadcastInDim S1024x1024 ![0, 1] bcast_S1024x1_S1024x1024_0_1 (broadcastInDim S1024x1 ![0] bcast_S1024_S1024x1_0 labels)) (broadcastInDim S1024x1024 ![0, 1] bcast_S1x1024_S1024x1024_0_1 (broadcastInDim S1x1024 ![1] bcast_S1024_S1x1024_1 labels))) (noti same)

/-- The number of positives of each sample. -/
def count (labels : IVec S1024 32) : IVec S1024 32 :=
  Host.reduce IntOp.addi (extui 32 (positive labels) natLt_1_32) (constantI S_ 32 0#32) reducesTo_S1024x1024_S1024_d1 h_S_

/-- The bit that says whether a sample has a positive. -/
def valid (labels : IVec S1024 32) : IVec S1024 1 :=
  cmpi .sgt (count labels) (broadcastInDim S1024 ![] bcast_S_S1024 (constantI S_ 32 0#32))

/-- The similarities of one modality, over the temperature. -/
def sim (t : FVec Ideal S1024x64 .f32) : FVec Ideal S1024x1024 .f32 :=
  Host.divf (Host.dotGeneral dot_S1024x64_S64x1024_S1024x1024_1_0_0_1_n_n none t (transpose S64x1024 [1, 0] t transposes_S1024x64_S64x1024_1_0)) (broadcastInDim S1024x1024 ![] bcast_S_S1024x1024 (Host.divf (constant S_ .f32 0x40E00000#32) (constant S_ .f32 0x42C80000#32)))

/-- The similarities with a sample's own entry at minus infinity. -/
def masked (t : FVec Ideal S1024x64 .f32) : FVec Ideal S1024x1024 .f32 :=
  select same (broadcastInDim S1024x1024 ![] bcast_S_S1024x1024 (constant S_ .f32 0xFF800000#32)) (sim t)

/-- The largest similarity of each row. -/
def peak (t : FVec Ideal S1024x64 .f32) : FVec Ideal S1024 .f32 :=
  Host.reduce FloatOps.maximumf (masked t) (constant S_ .f32 0xFF800000#32) reducesTo_S1024x1024_S1024_d1 h_S_

/-- The logarithm of each row's sum of exponentials. -/
def lse (t : FVec Ideal S1024x64 .f32) : FVec Ideal S1024 .f32 :=
  addf (Host.log (Host.reduceAdd (Host.exp (subf (masked t) (broadcastInDim S1024x1024 ![0, 1] bcast_S1024x1_S1024x1024_0_1 (broadcastInDim S1024x1 ![0] bcast_S1024_S1024x1_0 (peak t))))) (constant S_ .f32 0x00000000#32) reducesTo_S1024x1024_S1024_d1 h_S_)) (peak t)

/-- Each row's sum of the log probabilities of its positives. -/
def positiveSum (t : FVec Ideal S1024x64 .f32) (labels : IVec S1024 32) : FVec Ideal S1024 .f32 :=
  Host.reduceAdd (select (positive labels) (subf (sim t) (broadcastInDim S1024x1024 ![0, 1] bcast_S1024x1_S1024x1024_0_1 (broadcastInDim S1024x1 ![0] bcast_S1024_S1024x1_0 (lse t)))) (broadcastInDim S1024x1024 ![] bcast_S_S1024x1024 (id (constant S_ .f32 0x00000000#32)))) (constant S_ .f32 0x00000000#32) reducesTo_S1024x1024_S1024_d1 h_S_

/-- Each row's mean over its positives, 0 for a row without any. -/
def rowMean (t : FVec Ideal S1024x64 .f32) (labels : IVec S1024 32) : FVec Ideal S1024 .f32 :=
  select (valid labels) (Host.divf (positiveSum t labels) (sitofp .f32 (maxsi (count labels) (broadcastInDim S1024 ![] bcast_S_S1024 (constantI S_ 32 1#32))))) (broadcastInDim S1024 ![] bcast_S_S1024 (id (constant S_ .f32 0x00000000#32)))

/-- One modality's sum of the row means. -/
def modality (t : FVec Ideal S1024x64 .f32) (labels : IVec S1024 32) : FVec Ideal S_ .f32 :=
  Host.reduceAdd (rowMean t labels) (constant S_ .f32 0x00000000#32) reducesTo_S1024_S_d0 h_S_

/-- The tokens of the first modality. -/
def tokens0 (tokens : FVec Ideal S1024x2x64 .f32) : FVec Ideal S1024x64 .f32 :=
  shapeCast _ (extractStridedSlice S1024x1x64 ![0, 0, 0] tokens slices_S1024x2x64_S1024x1x64_0_0_0) shapeCasts_S1024x1x64_S1024x64

/-- The tokens of the second modality. -/
def tokens1 (tokens : FVec Ideal S1024x2x64 .f32) : FVec Ideal S1024x64 .f32 :=
  shapeCast _ (extractStridedSlice S1024x1x64 ![0, 1, 0] tokens slices_S1024x2x64_S1024x1x64_0_1_0) shapeCasts_S1024x1x64_S1024x64

/-- Minus the number of (modality, sample) pairs that have a positive. -/
def divisor (labels : IVec S1024 32) : FVec Ideal S_ .f32 :=
  mulf (constant S_ .f32 0xBF800000#32) (mulf (constant S_ .f32 0x40000000#32) (sitofp .f32 (Host.reduce IntOp.addi (extui 32 (valid labels) natLt_1_32) (constantI S_ 32 0#32) reducesTo_S1024_S_d0 h_S_)))

/-- The reference's result as a function of its arguments. -/
def value (tokens : FVec Ideal S1024x2x64 .f32) (labels : IVec S1024 32) : FVec Ideal S_ .f32 :=
  Host.divf (addf (addf (constant S_ .f32 0x00000000#32) (modality (tokens0 tokens) labels)) (modality (tokens1 tokens) labels)) (divisor labels)

/-- The reference's run ends with its result at `value` of the arguments. -/
theorem res_eq (m : (ℓ : Loc nD τ sig) → Buf (Elt Ideal) ℓ) (c : Dev nD) :
    Value.res_out0 m c = value (m ((c.tc : Thread nD τ).loc main_arg0)) (m ((c.tc : Thread nD τ).loc main_arg1)) := rfl

end Cert.ReferenceIdeal.Result

end
-- ==== Proof.ReferenceReads.lean ====
/- The reference's steps at an index, as the operations there read them. -/
module

public import proofs.«01_k».proof.Proof.ReferenceRun
public import Idealize.ShloMosaic.Lib.Pointwise

@[expose] public section

set_option maxRecDepth 16384

noncomputable section

open Idealize.ShloMosaic Idealize.ShloMosaic.TcCoe Idealize.SL.Sem

namespace Cert.ReferenceIdeal.Result

open Cert.ReferenceIdeal Cert.ReferenceIdeal.Gen

variable (t : FVec Ideal S1024x64 .f32) (l : IVec S1024 32)

/-- The diagonal's mask. -/
theorem same_at (i j : Fin 1024) : same (ix2 i j) = IntOp.cmpi .eq (IntOp.addi (BitVec.ofNat 32 i) 0#32) (BitVec.ofNat 32 j) := by
  pointwise [same]

/-- The mask of the positives. -/
theorem positive_at (i j : Fin 1024) :
    positive l (ix2 i j) = IntOp.andi (IntOp.cmpi .eq (l (ix1 i)) (l (ix1 j))) (~~~same (ix2 i j)) := by
  pointwise [positive]

/-- The number of positives. -/
theorem count_at (i : Fin 1024) :
    count l (ix1 i) = Finset.univ.fold IntOp.addi (0#32) fun k : Fin 1024 => (positive l (ix2 i k)).setWidth 32 := by
  pointwise [count]

/-- Whether there is one. -/
theorem valid_at (i : Fin 1024) : valid l (ix1 i) = IntOp.cmpi .sgt (count l (ix1 i)) 0#32 := by
  pointwise [valid]

/-- A similarity is a dot product over the temperature. -/
theorem sim_at (i j : Fin 1024) :
    sim t (ix2 i j) = Ideal.div (∑ d : Fin 64, (t (ix2 i d) : EReal) * t (ix2 j d))
      (Ideal.div (Ideal.ofBits .f32 0x40E00000#32) (Ideal.ofBits .f32 0x42C80000#32)) := by
  pointwise [sim]

/-- The masked similarities. -/
theorem masked_at (i j : Fin 1024) :
    masked t (ix2 i j) = Scalar.select (same (ix2 i j)) (Ideal.ofBits .f32 0xFF800000#32 : EReal) (sim t (ix2 i j)) := by
  pointwise [masked]

/-- Each row's largest. -/
theorem peak_at (i : Fin 1024) :
    peak t (ix1 i) = Finset.univ.fold max (Ideal.ofBits .f32 0xFF800000#32 : EReal) fun k : Fin 1024 => masked t (ix2 i k) := by
  pointwise [peak]

/-- The logarithm of each row's sum. -/
theorem lse_at (i : Fin 1024) :
    lse t (ix1 i) = Ideal.log (∑ k : Fin 1024, Ideal.exp ((masked t (ix2 i k) : EReal) - peak t (ix1 i))) + (peak t (ix1 i) : EReal) := by
  pointwise [lse]

/-- Each row's sum of log probabilities over its positives. -/
theorem positiveSum_at (i : Fin 1024) :
    positiveSum t l (ix1 i)
      = ∑ k : Fin 1024, Scalar.select (positive l (ix2 i k)) ((sim t (ix2 i k) : EReal) - lse t (ix1 i)) (Ideal.ofBits .f32 0#32) := by
  pointwise [positiveSum, id_eq]

/-- Each row's mean over its positives. -/
theorem rowMean_at (i : Fin 1024) :
    rowMean t l (ix1 i) = Scalar.select (valid l (ix1 i))
      (Ideal.div (positiveSum t l (ix1 i)) (((IntOp.maxsi (count l (ix1 i)) 1#32).toInt : ℝ) : EReal)) (Ideal.ofBits .f32 0#32) := by
  pointwise [rowMean, id_eq]
  rfl

/-- One modality's sum. -/
theorem modality_at : modality t l ix0 = ∑ i : Fin 1024, (rowMean t l (ix1 i) : EReal) := by
  pointwise [modality]

/-- The first modality's tokens. -/
theorem tokens0_at (a : FVec Ideal S1024x2x64 .f32) (i : Fin 1024) (d : Fin 64) : tokens0 a (ix2 i d) = a (ix3 i 0 d) := by
  pointwise [tokens0]

/-- The second modality's tokens. -/
theorem tokens1_at (a : FVec Ideal S1024x2x64 .f32) (i : Fin 1024) (d : Fin 64) : tokens1 a (ix2 i d) = a (ix3 i 1 d) := by
  pointwise [tokens1]

/-- The divisor. -/
theorem divisor_at :
    divisor l ix0 = Ideal.ofBits .f32 0xBF800000#32 * (Ideal.ofBits .f32 0x40000000#32
      * (((Finset.univ.fold IntOp.addi (0#32) fun k : Fin 1024 => (valid l (ix1 k)).setWidth 32).toInt : ℝ) : EReal)) := by
  pointwise [divisor]
  rfl

/-- A quotient of a sum of two scalars and zero, at the only index. -/
theorem quotient_at (a b c : FVec Ideal S_ .f32) :
    Host.divf (addf (addf (constant S_ .f32 0x00000000#32) a) b) c ix0 = Ideal.div ((a ix0 : EReal) + b ix0) (c ix0) := by
  pointwise

/-- The result. -/
theorem value_at (a : FVec Ideal S1024x2x64 .f32) :
    value a l ix0 = Ideal.div ((modality (tokens0 a) l ix0 : EReal) + modality (tokens1 a) l ix0) (divisor l ix0) :=
  quotient_at _ _ _

end Cert.ReferenceIdeal.Result

end
-- ==== Proof.ReferenceReal.lean ====
/- The reference's steps over real tokens and known classes: each is a real number, up to the last quotient. -/
module

public import proofs.«01_k».proof.Proof.ReferenceReads
public import proofs.«01_k».proof.Proof.Consts
public import proofs.«01_k».proof.Proof.Words
public import proofs.«01_k».proof.Proof.Loss

@[expose] public section

set_option maxRecDepth 16384

noncomputable section

open Idealize.ShloMosaic Idealize.ShloMosaic.TcCoe Idealize.SL.Sem Contrastive

namespace Cert.ReferenceIdeal.Result

open Cert.ReferenceIdeal Cert.ReferenceIdeal.Gen

variable (t : FVec Ideal S1024x64 .f32) (l : IVec S1024 32)
variable (U : Fin 1024 → Fin 64 → ℝ) (L : Fin 1024 → Fin 16)

/-! ## The classes -/

/-- The diagonal's bit. -/
theorem same_iff (i j : Fin 1024) : same (ix2 i j) = 1#1 ↔ i = j := by
  rw [same_at, show IntOp.addi (BitVec.ofNat 32 (i : ℕ)) 0#32 = BitVec.ofNat 32 i from BitVec.add_zero _,
    cmp_word_iff (by omega) (by omega)]
  exact Fin.ext_iff.symm

/-- The negation of a bit is 1 exactly when the bit is not. -/
theorem not_bit_iff (b : BitVec 1) : ~~~b = 1#1 ↔ ¬b = 1#1 := by revert b; decide

/-- The bit of a positive pair. -/
theorem positive_iff (hl : ∀ i, l (ix1 i) = BitVec.ofNat 32 (L i)) (i j : Fin 1024) :
    positive l (ix2 i j) = 1#1 ↔ L i = L j ∧ i ≠ j := by
  rw [positive_at, IntOp.andi_eq_one, not_bit_iff, same_iff, hl, hl, cmp_word_iff (by omega) (by omega)]
  exact and_congr_left' Fin.ext_iff.symm

/-- The count word holds the number of positives. -/
theorem count_real (hl : ∀ i, l (ix1 i) = BitVec.ofNat 32 (L i)) (i : Fin 1024) :
    count l (ix1 i) = BitVec.ofNat 32 (positives L i) := by
  rw [count_at, IndicatorCount.fold_addi_setWidth_eq_card, positives]
  refine congrArg _ (congrArg _ (Finset.filter_congr fun k _ => positive_iff l L hl i k))

/-- The bit of a row with a positive. -/
theorem valid_iff (hl : ∀ i, l (ix1 i) = BitVec.ofNat 32 (L i)) (i : Fin 1024) : valid l (ix1 i) = 1#1 ↔ 0 < positives L i := by
  rw [valid_at, count_real l L hl, cmp_pos_iff (lt_of_le_of_lt (positives_le L i) (by norm_num))]

/-! ## The log probabilities -/

/-- The similarities. -/
theorem sim_real (ht : ∀ i d, t (ix2 i d) = (U i d : EReal)) (i j : Fin 1024) : sim t (ix2 i j) = (similarity U i j : EReal) := by
  rw [sim_at, Consts.ofBits_seven, Consts.ofBits_hundred, Ideal.div_coe (by norm_num), ← EReal.coe_mul,
    Ideal.div_coe (by norm_num), Finset.sum_congr rfl fun d _ => by rw [ht, ht, ← EReal.coe_mul], ← coe_sum, ← EReal.coe_mul]
  refine congrArg _ ?_
  rw [similarity]
  norm_num

/-- The masked similarities. -/
theorem masked_real (ht : ∀ i d, t (ix2 i d) = (U i d : EReal)) (i k : Fin 1024) :
    masked t (ix2 i k) = holed i (similarity U i) k := by
  rw [masked_at, sim_real t U ht, Consts.ofBits_bot, holed]
  exact if_congr (same_iff i k) rfl rfl

/-- The logarithms of the rows' sums. -/
theorem lse_real (ht : ∀ i d, t (ix2 i d) = (U i d : EReal)) (i : Fin 1024) : lse t (ix1 i) = (logTotal U i : EReal) := by
  have h : (fun k => masked t (ix2 i k)) = holed i (similarity U i) := funext fun k => masked_real t U ht i k
  rw [lse_at, peak_at, h, Finset.sum_congr rfl fun k _ => by rw [masked_real t U ht], Consts.ofBits_bot]
  exact log_sum_exp_holed i (exists_other i) (similarity U i)

/-- A row's log probabilities, added up over its positives. -/
theorem positiveSum_real (ht : ∀ i d, t (ix2 i d) = (U i d : EReal)) (hl : ∀ i, l (ix1 i) = BitVec.ofNat 32 (L i)) (i : Fin 1024) :
    positiveSum t l (ix1 i) = ((∑ k, if L i = L k ∧ i ≠ k then similarity U i k - logTotal U i else 0 : ℝ) : EReal) := by
  rw [positiveSum_at, coe_sum]
  refine Finset.sum_congr rfl fun k _ => ?_
  rw [sim_real t U ht, lse_real t U ht, Consts.ofBits_zero, ← EReal.coe_sub, apply_ite Real.toEReal]
  exact if_congr (positive_iff l L hl i k) rfl rfl

/-- A row's mean. -/
theorem rowMean_real (ht : ∀ i d, t (ix2 i d) = (U i d : EReal)) (hl : ∀ i, l (ix1 i) = BitVec.ofNat 32 (L i)) (i : Fin 1024) :
    rowMean t l (ix1 i) = ((if 0 < positives L i then
        (∑ k, if L i = L k ∧ i ≠ k then similarity U i k - logTotal U i else 0) / max (positives L i : ℝ) 1 else 0 : ℝ) : EReal) := by
  have hb : positives L i < 2 ^ 31 := lt_of_le_of_lt (positives_le L i) (by norm_num)
  have hm : (((max (positives L i) 1 : ℕ) : ℤ) : ℝ) = max (positives L i : ℝ) 1 := by
    rw [Int.cast_natCast, Nat.cast_max, Nat.cast_one]
  have h0 : (max (positives L i : ℝ) 1) ≠ 0 := (lt_of_lt_of_le one_pos (le_max_right _ _)).ne'
  rw [rowMean_at, positiveSum_real t l U L ht hl, count_real l L hl, toInt_max_one hb, hm, Ideal.div_coe h0, ← EReal.coe_mul,
    mul_one_div, Consts.ofBits_zero, apply_ite Real.toEReal]
  exact if_congr (valid_iff l L hl i) rfl rfl

/-- One modality's sum. -/
theorem modality_real (ht : ∀ i d, t (ix2 i d) = (U i d : EReal)) (hl : ∀ i, l (ix1 i) = BitVec.ofNat 32 (L i)) :
    modality t l ix0 = (meanTotal L (similarity U) (logTotal U) : EReal) := by
  rw [modality_at, Finset.sum_congr rfl fun i _ => rowMean_real t l U L ht hl i, ← coe_sum]
  rfl

/-! ## The quotient -/

/-- The divisor. -/
theorem divisor_real (hl : ∀ i, l (ix1 i) = BitVec.ofNat 32 (L i)) : divisor l ix0 = (Contrastive.divisor L : EReal) := by
  have hc : (Finset.univ.filter fun i => 0 < positives L i).card < 2 ^ 31 :=
    lt_of_le_of_lt (Finset.card_le_univ _) (by rw [Fintype.card_fin]; norm_num)
  rw [divisor_at, IndicatorCount.fold_addi_setWidth_eq_card, Finset.filter_congr fun i _ => valid_iff l L hl i, toInt_count hc,
    Int.cast_natCast, Consts.ofBits_neg_one, Consts.ofBits_two, ← EReal.coe_mul, ← EReal.coe_mul, Contrastive.divisor, neg_one_mul]

/-- The reference's result is the loss. -/
theorem value_real (a : FVec Ideal S1024x2x64 .f32) (V : Fin 1024 → Fin 64 → ℝ) (h₀ : ∀ i d, a (ix3 i 0 d) = (U i d : EReal))
    (h₁ : ∀ i d, a (ix3 i 1 d) = (V i d : EReal)) (hl : ∀ i, l (ix1 i) = BitVec.ofNat 32 (L i)) :
    value a l ix0 = Ideal.div (numerator L U V : EReal) (Contrastive.divisor L : EReal) := by
  rw [value_at, divisor_real l L hl, modality_real (tokens0 a) l U L (fun i d => (tokens0_at a i d).trans (h₀ i d)) hl,
    modality_real (tokens1 a) l V L (fun i d => (tokens1_at a i d).trans (h₁ i d)) hl, ← EReal.coe_add]
  rfl

end Cert.ReferenceIdeal.Result

end
-- ==== Proof.Domain.lean ====
/- What the precondition says: every token is a real number and every label is one of the 16 classes. -/
module

public import proofs.«01_k».proof.Proof.Gen.Pre_finite_tokens_small_labels
public import proofs.«01_k».proof.Proof.Consts
public import Idealize.ShloMosaic.Lib.ReduceAll
public import Idealize.ShloMosaic.Lib.StableHlo.Predicate
public import Idealize.ShloMosaic.Lib.Pointwise.Index

@[expose] public section

noncomputable section

namespace Contrastive

open Idealize.ShloMosaic Cert.Pre_finite_tokens_small_labels

/-- An extended real whose absolute value is below infinity is a real number. -/
theorem real_of_abs_lt {y : EReal} (h : max y (-y) < ⊤) : ∃ r : ℝ, y = (r : EReal) := by
  refine ⟨y.toReal, (EReal.coe_toReal (fun e => ?_) fun e => ?_).symm⟩
  · rw [e, max_eq_left le_top] at h
    exact lt_irrefl _ h
  · rw [e, EReal.neg_bot, max_eq_right le_top] at h
    exact lt_irrefl _ h

/-- A word between 0 and 15, read signed, is the word of a number below 16. -/
theorem class_of_bounds {w : BitVec 32} (h0 : (0#32 : BitVec 32).toInt ≤ w.toInt) (h1 : w.toInt < (16#32 : BitVec 32).toInt) :
    ∃ a : Fin 16, w = BitVec.ofNat 32 a := by
  have e0 : (0#32 : BitVec 32).toInt = 0 := by decide
  have e1 : (16#32 : BitVec 32).toInt = 16 := by decide
  rw [e0] at h0
  rw [e1] at h1
  have hw : w.toNat < 16 := by
    rw [BitVec.toInt_eq_toNat_cond] at h0 h1
    have := w.isLt
    split at h0 <;> omega
  exact ⟨⟨w.toNat, hw⟩, by simp⟩

/-- Arguments of which the precondition holds are real tokens and classes. -/
theorem domain (x : FVec Ideal S1024x2x64 .f32) (l : IVec S1024 32)
    (h : Cert.Pre_finite_tokens_small_labels.fn (F := Ideal) x l = fun _ => 1#1) :
    (∀ i, ∃ r : ℝ, (x i : EReal) = r) ∧ ∀ i, ∃ a : Fin 16, l i = BitVec.ofNat 32 a := by
  have h0 := congrFun h ix0
  obtain ⟨hx, hl⟩ := IntOp.andi_eq_one.1 h0
  refine ⟨fun i => real_of_abs_lt ?_, fun i => ?_⟩
  · have hi := Host.reduce_andi_all _ _ _ _ _ hx i
    have hi' : Ideal.cmp .olt (max (x i : EReal) (-(x i : EReal))) (Ideal.ofBits .f32 0x7F800000#32) = 1#1 := hi
    rw [Consts.ofBits_top] at hi'
    exact of_decide_eq_true ((StableHlo.Predicate.ofBool_eq_one_iff _).1 hi')
  · have hi := Host.reduce_andi_all _ _ _ _ _ hl i
    obtain ⟨ha, hb⟩ := IntOp.andi_eq_one.1 hi
    exact class_of_bounds (IntOp.cmpi_sge.1 ha) (IntOp.cmpi_slt.1 hb)

end Contrastive

end
-- ==== Proof.Equation.lean ====
/- The two programs' results are equal: on real tokens and known classes each is the quotient of the same two real
   numbers. -/
module

public import proofs.«01_k».proof.Proof.KernelReal
public import proofs.«01_k».proof.Proof.KernelLayout
public import proofs.«01_k».proof.Proof.ReferenceReal
public import proofs.«01_k».proof.Proof.Domain

@[expose] public section

set_option maxRecDepth 16384

noncomputable section

open Idealize.ShloMosaic Contrastive

namespace Cert.Equation

/-- The kernel's result over real tokens `T` and classes `L`. -/
theorem kernel_value (x : FVec Ideal Cert.KernelIdeal.S1024x2x64 .f32) (l : IVec Cert.KernelIdeal.S1024 32)
    (T : Fin 1024 → Fin 2 → Fin 64 → ℝ) (L : Fin 1024 → Fin 16) (hx : ∀ i j d, x (ix3 i j d) = (T i j d : EReal))
    (hl : ∀ i, l (ix1 i) = BitVec.ofNat 32 (L i)) :
    Cert.KernelIdeal.Result.value x l ix0
      = Ideal.div (numerator L (fun i d => T i 0 d) (fun i d => T i 1 d) : EReal) (Contrastive.divisor L : EReal) := by
  have h := Cert.KernelIdeal.Result.stored_real _ _ _ (fun i (d : Fin 128) => T i ⟨d / 64, by omega⟩ ⟨d % 64, by omega⟩) L
    (fun i d => (Cert.KernelIdeal.Result.tokens_at x i d).trans (hx _ _ _))
    (fun i => (Cert.KernelIdeal.Result.row_at l i).trans (hl i)) (fun i => (Cert.KernelIdeal.Result.column_at l i).trans (hl i))
  have h0 : (fun i (d : Fin 64) => T i ⟨(⟨d, by omega⟩ : Fin 128) / 64, by omega⟩ ⟨(⟨d, by omega⟩ : Fin 128) % 64, by omega⟩)
      = fun i d => T i 0 d := by
    funext i d
    exact congrArg₂ (T i) (Fin.ext (by show (d : ℕ) / 64 = 0; omega)) (Fin.ext (by show (d : ℕ) % 64 = d; omega))
  have h1 : (fun i (d : Fin 64) => T i ⟨(⟨64 + d, by omega⟩ : Fin 128) / 64, by omega⟩ ⟨(⟨64 + d, by omega⟩ : Fin 128) % 64, by omega⟩)
      = fun i d => T i 1 d := by
    funext i d
    exact congrArg₂ (T i) (Fin.ext (by show (64 + d : ℕ) / 64 = 1; omega)) (Fin.ext (by show (64 + d : ℕ) % 64 = d; omega))
  rw [Cert.KernelIdeal.Result.value, Cert.KernelIdeal.Result.scalar_at, h]
  exact congrArg₂ (fun U V => Ideal.div (numerator L U V : EReal) (Contrastive.divisor L : EReal)) h0 h1

/-- Where the precondition holds, the kernel's result is the reference's. -/
theorem value_eq (x : FVec Ideal Cert.KernelIdeal.S1024x2x64 .f32) (l : IVec Cert.KernelIdeal.S1024 32)
    (h : Cert.Pre_finite_tokens_small_labels.fn (F := Ideal) x l = fun _ => 1#1) :
    Cert.ReferenceIdeal.Result.value x l = Cert.KernelIdeal.Result.value x l := by
  obtain ⟨hx, hl⟩ := domain x l h
  choose T hT using hx
  choose L hL using hl
  funext j
  rw [show j = ix0 from Subsingleton.elim _ _,
    kernel_value x l (fun i j d => T (ix3 i j d)) (fun i => L (ix1 i)) (fun i j d => hT _) (fun i => hL _)]
  exact Cert.ReferenceIdeal.Result.value_real l (fun i d => T (ix3 i 0 d)) (fun i => L (ix1 i)) x (fun i d => T (ix3 i 1 d))
    (fun i d => hT _) (fun i d => hT _) (fun i => hL _)

end Cert.Equation

end
-- ==== Proof.Claims.lean ====
/- The claims about the reference's run, the named constants, and the equality of the two programs' results. -/
module

public import proofs.«01_k».proof.Defs
public import proofs.«01_k».proof.Proof.Equation
public import Idealize.ShloMosaic.Lib.Quiescent

@[expose] public section

noncomputable section

open Idealize.ShloMosaic Idealize.SL.Sem

namespace Cert.Claims

/-- From every memory the reference ends, its arguments unchanged and its counters at zero: it has none. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem reference_frame_pre : Cert.quiescent_ReferenceIdeal_pre_finite_tokens_small_labels := fun m ρ _ =>
  reference_frame m ρ trivial

/-- Each of the kernel's named constants has the value that the kernel's table gives its name. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-- From memories that agree on the arguments and meet the precondition, both programs end with the same result. -/
theorem algebraic : Cert.algebraic_KernelIdeal_ReferenceIdeal_pre_finite_tokens_small_labels := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Result.res_eq m' c).trans ?_
  rw [(hagree c).1, (hagree c).2]
  exact Cert.Equation.value_eq _ _ (hpre c)

end Cert.Claims

end
-- ==== Proof.lean ====
/- The proof of the claim: the witnesses of the programs' stated facts, the three runs of the kernel (Proof/Gen), and the
   claims of Proof/Claims.lean. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_tokens_small_labels
public import proofs.«01_k».proof.Proof.Claims
public import Idealize.ShloMosaic.Adequacy
public import Idealize.ShloMosaic.Init

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts, Cert.Pre_finite_tokens_small_labels.Gen.facts,
  fun m ρ _ => Cert.Kernel.Gen.frame m ρ,
  fun m ρ _ => Cert.KernelIdeal.Gen.frame m ρ,
  fun m ρ _ => Cert.KernelIdeal.Gen.frame m ρ,
  Cert.Claims.reference_frame, Cert.Claims.reference_frame_pre, Cert.Claims.preserves, Cert.Claims.algebraic⟩

end Cert.Proof

end
